-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S1024x1024 : Shape := ⟨2, ![1024, 1024]⟩
abbrev S1024x512 : Shape := ⟨2, ![1024, 512]⟩
abbrev S512x1000 : Shape := ⟨2, ![512, 1000]⟩
abbrev S1000 : Shape := ⟨1, ![1000]⟩
abbrev S1024x1000 : Shape := ⟨2, ![1024, 1000]⟩
abbrev S1x1000 : Shape := ⟨2, ![1, 1000]⟩
abbrev S_ : Shape := ⟨0, ![]⟩
abbrev S1024 : Shape := ⟨1, ![1024]⟩
abbrev S1024x1 : Shape := ⟨2, ![1024, 1]⟩

class Facts : Prop where
  bcast_S1000_S1x1000_1 : S1000.BroadcastsInDim S1x1000 (![1] : Fin 1 → Fin S1x1000.rank)
  bcast_S1x1000_S1024x1000_0_1 : S1x1000.BroadcastsInDim S1024x1000 (![0, 1] : Fin 2 → Fin S1024x1000.rank)
  reducesTo_S1024x1000_S1024_d1 : S1024x1000.ReducesTo [1] S1024
  h_S_ : 0 < S_.numel
  bcast_S1024_S1024x1_0 : S1024.BroadcastsInDim S1024x1 (![0] : Fin 1 → Fin S1024x1.rank)
  bcast_S1024x1_S1024x1000_0_1 : S1024x1.BroadcastsInDim S1024x1000 (![0, 1] : Fin 2 → Fin S1024x1000.rank)
  natLt_1_32 : 1 < 32
  bcast_S_S1024 : S_.BroadcastsInDim S1024 (![] : Fin 0 → Fin S1024.rank)
  dot_S1024x1024_S1024x512_S1024x512_1_0_0_1_n_n_wf : DotDims.WF S1024x1024 S1024x512 S1024x512 [1] [0] [0] [1] [] []
  dot_S1024x512_S512x1000_S1024x1000_1_0_0_1_n_n_wf : DotDims.WF S1024x512 S512x1000 S1024x1000 [1] [0] [0] [1] [] []

variable [Facts]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1000_S1024x1000_1_0_0_1_n_n : DotDims S1024x512 S512x1000 S1024x1000 where
  lhsContracting := [1]
  rhsContracting := [0]
  lhsNonContracting := [0]
  rhsNonContracting := [1]
  lhsBatch := []
  rhsBatch := []
  wf := dot_S1024x512_S512x1000_S1024x1000_1_0_0_1_n_n_wf
def fn {F : FTy → Type} [FloatOps F] (main_arg0 : FVec F S1024x1024 .f32) (main_arg1 : FVec F S1024x512 .f32) (main_arg2 : FVec F S512x1000 .f32) (main_arg3 : FVec F S512x1000 .f32) (main_arg4 : FVec F S1000 .f32) : IVec S1024 1 :=
  let main_v0 : FVec F S1024x512 .f32 := (fun l r => Host.dotGeneral dot_S1024x1024_S1024x512_S1024x512_1_0_0_1_n_n none l r) main_arg0 main_arg1
  let main_v1 : FVec F S1024x1000 .f32 := (fun l r => Host.dotGeneral dot_S1024x512_S512x1000_S1024x1000_1_0_0_1_n_n none l r) main_v0 main_arg2
  let main_v2 : FVec F S1024x1000 .f32 := (fun l r => Host.dotGeneral dot_S1024x512_S512x1000_S1024x1000_1_0_0_1_n_n none l r) main_v0 main_arg3
  let main_v3 : FVec F S1024x1000 .f32 := addf main_v1 main_v2
  let main_v4 : FVec F S1x1000 .f32 := broadcastInDim S1x1000 ![1] bcast_S1000_S1x1000_1 main_arg4
  let main_v5 : FVec F S1024x1000 .f32 := broadcastInDim S1024x1000 ![0, 1] bcast_S1x1000_S1024x1000_0_1 main_v4
  let main_v6 : FVec F S1024x1000 .f32 := addf main_v3 main_v5
  let main_cst : FVec F S_ .f32 := constant S_ .f32 0xFF800000#32
  let main_v7 : FVec F S1024 .f32 := (fun x v => Host.reduce FloatOps.maximumf x v reducesTo_S1024x1000_S1024_d1 h_S_) main_v6 main_cst
  let main_v8 : FVec F S1024x1 .f32 := broadcastInDim S1024x1 ![0] bcast_S1024_S1024x1_0 main_v7
  let main_v9 : FVec F S1024x1000 .f32 := broadcastInDim S1024x1000 ![0, 1] bcast_S1024x1_S1024x1000_0_1 main_v8
  let main_v10 : IVec S1024x1000 1 := cmpf .oeq main_v6 main_v9
  let main_v11 : IVec S1024x1000 32 := (extui 32 · natLt_1_32) main_v10
  let main_c : IVec S_ 32 := constantI S_ 32 0#32
  let main_v12 : IVec S1024 32 := (fun x v => Host.reduce IntOp.addi x v reducesTo_S1024x1000_S1024_d1 h_S_) main_v11 main_c
  let main_c_0 : IVec S_ 32 := constantI S_ 32 1#32
  let main_v13 : IVec S1024 32 := broadcastInDim S1024 ![] bcast_S_S1024 main_c_0
  let main_v14 : IVec S1024 1 := cmpi .eq main_v12 main_v13
  main_v14
-- ==== Kernel.lean ====
abbrev S1024x1024 : Shape := ⟨2, ![1024, 1024]⟩
abbrev S1024x512 : Shape := ⟨2, ![1024, 512]⟩
abbrev S512x1000 : Shape := ⟨2, ![512, 1000]⟩
abbrev S1000 : Shape := ⟨1, ![1000]⟩
abbrev S1024x1000 : Shape := ⟨2, ![1024, 1000]⟩
abbrev S1024 : Shape := ⟨1, ![1024]⟩
abbrev S512x1024 : Shape := ⟨2, ![512, 1024]⟩
abbrev S512 : Shape := ⟨1, ![512]⟩
abbrev S512x512 : Shape := ⟨2, ![512, 512]⟩
abbrev S1x1000 : Shape := ⟨2, ![1, 1000]⟩

abbrev nBuf : Space → Nat
  | .hbm => 8
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S512x1000, .f32⟩
  | .hbm, ⟨3, _⟩ => ⟨S512x1000, .f32⟩
  | .hbm, ⟨4, _⟩ => ⟨S1000, .f32⟩
  | .hbm, ⟨5, _⟩ => ⟨S1024x1000, .f32⟩
  | .hbm, ⟨6, _⟩ => ⟨S1024, .f32⟩
  | .hbm, ⟨7, _⟩ => ⟨S1024, .i32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S512x1000, .f32⟩
  | .local _ .vmem, ⟨4, _⟩ => ⟨S512x1000, .f32⟩
  | .local _ .vmem, ⟨5, _⟩ => ⟨S1000, .f32⟩
  | .local _ .vmem, ⟨6, _⟩ => ⟨S512x1000, .f32⟩
  | .local _ .vmem, ⟨7, _⟩ => ⟨S512x1000, .f32⟩
  | .local _ .vmem, ⟨8, _⟩ => ⟨S512, .f32⟩
  | .local _ .vmem, ⟨9, _⟩ => ⟨S512, .f32⟩
  | .local _ .vmem, ⟨10, _⟩ => ⟨S512, .i32⟩
  | .local _ .vmem, ⟨11, _⟩ => ⟨S512, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1024x1024 : Shape := ⟨2, ![1024, 1024]⟩
abbrev S1024x512 : Shape := ⟨2, ![1024, 512]⟩
abbrev S512x1000 : Shape := ⟨2, ![512, 1000]⟩
abbrev S1000 : Shape := ⟨1, ![1000]⟩
abbrev S1024x1000 : Shape := ⟨2, ![1024, 1000]⟩
abbrev S1x1000 : Shape := ⟨2, ![1, 1000]⟩
abbrev S_ : Shape := ⟨0, ![]⟩
abbrev S1024 : Shape := ⟨1, ![1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S512x1000, .f32⟩
  | .hbm, ⟨3, _⟩ => ⟨S512x1000, .f32⟩
  | .hbm, ⟨4, _⟩ => ⟨S1000, .f32⟩
  | .hbm, ⟨5, _⟩ => ⟨S1024x512, .f32⟩
  | .hbm, ⟨6, _⟩ => ⟨S1024x1000, .f32⟩
  | .hbm, ⟨7, _⟩ => ⟨S1024x1000, .f32⟩
  | .hbm, ⟨8, _⟩ => ⟨S1024x1000, .f32⟩
  | .hbm, ⟨9, _⟩ => ⟨S1x1000, .f32⟩
  | .hbm, ⟨10, _⟩ => ⟨S1024x1000, .f32⟩
  | .hbm, ⟨11, _⟩ => ⟨S1024x1000, .f32⟩
  | .hbm, ⟨12, _⟩ => ⟨S_, .f32⟩
  | .hbm, ⟨13, _⟩ => ⟨S1024, .f32⟩
  | .hbm, ⟨14, _⟩ => ⟨S1024x1000, .i32⟩
  | .hbm, ⟨15, _⟩ => ⟨S_, .f32⟩
  | .hbm, ⟨16, _⟩ => ⟨S_, .i32⟩
  | .hbm, ⟨17, _⟩ => ⟨S1024, .f32⟩
  | .hbm, ⟨18, _⟩ => ⟨S1024, .i32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.FirstMax.lean ====
/- The first place at which a row of extended reals is largest, as plain mathematics, and the left fold of the
   reference's arg-max reducer over a list of (value, index) pairs. Nothing here knows of a launch or of a block. -/
module

public import proofs.«01_k».proof.ReferenceIdeal
public import proofs.«01_k».proof.Proof.Gen.ReferenceIdeal
public import Idealize.ShloMosaic.PureOps.Ideal.Laws

@[expose] public section

namespace Cert.Policy

open Idealize.ShloMosaic

/-- `c` is the first place at which the row `f` is largest: no entry is above the one at `c`, and every entry equal to
    it stands at `c` or later. -/
def IsFirstMax {n : ℕ} (f : Fin n → EReal) (c : Fin n) : Prop :=
  (∀ d, f d ≤ f c) ∧ ∀ d, f d = f c → c ≤ d

/-- A row with at least one entry has a first place of its largest entry. -/
theorem exists_isFirstMax {n : ℕ} (hn : 0 < n) (f : Fin n → EReal) : ∃ c, IsFirstMax f c := by
  have : Nonempty (Fin n) := ⟨⟨0, hn⟩⟩
  obtain ⟨b, hb⟩ := Finite.exists_max f
  obtain ⟨c, hc, hmin⟩ := Finset.exists_min_image (Finset.univ.filter fun d => f d = f b) id ⟨b, by simp⟩
  have hcb : f c = f b := (Finset.mem_filter.mp hc).2
  refine ⟨c, fun d => hcb ▸ hb d, fun d hd => hmin d ?_⟩
  simp [hd, hcb]

/-- That place is unique. -/
theorem IsFirstMax.unique {n : ℕ} {f : Fin n → EReal} {c d : Fin n} (hc : IsFirstMax f c) (hd : IsFirstMax f d) :
    c = d := by
  have e : f c = f d := le_antisymm (hd.1 c) (hc.1 d)
  exact le_antisymm (hc.2 d e.symm) (hd.2 c e)

/-- The pair `r` outranks the pair `p`: its value is at least as large, and at equal values its index is no later. -/
def Outranks (r p : EReal × BitVec 32) : Prop :=
  p.1 ≤ r.1 ∧ (p.1 = r.1 → r.2.toNat ≤ p.2.toNat)

/-- Every pair outranks itself. -/
theorem Outranks.refl (p : EReal × BitVec 32) : Outranks p p := ⟨le_refl _, fun _ => le_refl _⟩

/-- Outranking is transitive. -/
theorem Outranks.trans {r q p : EReal × BitVec 32} (h₁ : Outranks r q) (h₂ : Outranks q p) : Outranks r p := by
  refine ⟨h₂.1.trans h₁.1, fun e => ?_⟩
  have hq : q.1 = r.1 := le_antisymm h₁.1 (e ▸ h₂.1)
  exact (h₁.2 hq).trans (h₂.2 (e.trans hq.symm))

/-- One step of the reference's reducer on two pairs whose indices are not negative: the answer is one of the two, and
    it outranks both. -/
theorem reducer_step (a b : EReal × BitVec 32) (ha : a.2.toNat < 2 ^ 31) (hb : b.2.toNat < 2 ^ 31) :
    (ReferenceIdeal.reducer_argmax_f32_i32 (F := Ideal) a b = a ∨ ReferenceIdeal.reducer_argmax_f32_i32 (F := Ideal) a b = b)
      ∧ Outranks (ReferenceIdeal.reducer_argmax_f32_i32 (F := Ideal) a b) a
      ∧ Outranks (ReferenceIdeal.reducer_argmax_f32_i32 (F := Ideal) a b) b := by
  obtain ⟨x, i⟩ := a
  obtain ⟨y, j⟩ := b
  have hs : i.slt j = decide (i.toNat < j.toNat) := by
    rw [BitVec.slt_eq_decide, BitVec.toInt_eq_toNat_of_lt (by simp at ha; omega), BitVec.toInt_eq_toNat_of_lt (by simp at hb; omega)]
    simp
  rcases lt_trichotomy x y with h | h | h
  · have e : ReferenceIdeal.reducer_argmax_f32_i32 (F := Ideal) (x, i) (y, j) = (y, j) := by
      simp [ReferenceIdeal.reducer_argmax_f32_i32, Ideal.cmpf_def, Ideal.cmp, Scalar.select, IntOp.ori, IntOp.andi, h.ne, h.not_gt]
    rw [e]
    exact ⟨.inr rfl, ⟨h.le, fun e' => absurd e' h.ne⟩, Outranks.refl _⟩
  · subst h
    by_cases hij : i.toNat < j.toNat
    · have e : ReferenceIdeal.reducer_argmax_f32_i32 (F := Ideal) (x, i) (x, j) = (x, i) := by
        simp [ReferenceIdeal.reducer_argmax_f32_i32, Ideal.cmpf_def, Ideal.cmp, Scalar.select, IntOp.ori, IntOp.andi, IntOp.cmpi, hs, hij]
      rw [e]
      exact ⟨.inl rfl, Outranks.refl _, le_refl _, fun _ => hij.le⟩
    · have e : ReferenceIdeal.reducer_argmax_f32_i32 (F := Ideal) (x, i) (x, j) = (x, j) := by
        simp [ReferenceIdeal.reducer_argmax_f32_i32, Ideal.cmpf_def, Ideal.cmp, Scalar.select, IntOp.ori, IntOp.andi, IntOp.cmpi, hs, hij]
      rw [e]
      exact ⟨.inr rfl, ⟨le_refl _, fun _ => not_lt.mp hij⟩, Outranks.refl _⟩
  · have e : ReferenceIdeal.reducer_argmax_f32_i32 (F := Ideal) (x, i) (y, j) = (x, i) := by
      simp [ReferenceIdeal.reducer_argmax_f32_i32, Ideal.cmpf_def, Ideal.cmp, Scalar.select, IntOp.ori, IntOp.andi, h.ne', h]
    rw [e]
    exact ⟨.inl rfl, Outranks.refl _, h.le, fun e' => absurd e' h.ne⟩

/-- The reducer folded from the left over a list of pairs with no negative index: the answer is the starting pair or one
    of the list, and it outranks them all. The order of the list does not matter for this. -/
theorem reducer_foldl (L : List (EReal × BitVec 32)) : ∀ a : EReal × BitVec 32, a.2.toNat < 2 ^ 31 →
    (∀ p ∈ L, p.2.toNat < 2 ^ 31) →
    L.foldl (ReferenceIdeal.reducer_argmax_f32_i32 (F := Ideal)) a ∈ a :: L
      ∧ ∀ p ∈ a :: L, Outranks (L.foldl (ReferenceIdeal.reducer_argmax_f32_i32 (F := Ideal)) a) p := by
  induction L with
  | nil =>
    intro a _ _
    refine ⟨by simp, fun p hp => ?_⟩
    rw [List.mem_singleton.mp hp]
    exact Outranks.refl a
  | cons b L ih =>
    intro a ha hL
    have hb : b.2.toNat < 2 ^ 31 := hL b (by simp)
    obtain ⟨hor, hoa, hob⟩ := reducer_step a b ha hb
    have hlt : (ReferenceIdeal.reducer_argmax_f32_i32 (F := Ideal) a b).2.toNat < 2 ^ 31 := by
      rcases hor with e | e <;> rw [e] <;> assumption
    obtain ⟨hmem, hout⟩ := ih _ hlt fun p hp => hL p (List.mem_cons_of_mem _ hp)
    rw [List.foldl_cons]
    have hstep := hout _ List.mem_cons_self
    constructor
    · rcases List.mem_cons.mp hmem with e | h
      · rw [e]
        rcases hor with e' | e' <;> rw [e'] <;> simp
      · exact List.mem_cons_of_mem _ (List.mem_cons_of_mem _ h)
    · intro p hp
      rcases List.mem_cons.mp hp with rfl | hp
      · exact hstep.trans hoa
      rcases List.mem_cons.mp hp with rfl | hp
      · exact hstep.trans hob
      · exact hout p (List.mem_cons_of_mem _ hp)

/-- So from the pair (−∞, 0), over a list that holds exactly the pairs (`f k`, `k`) of a row `f`, the fold answers the
    first place of the row's largest entry. Where every entry is −∞ the starting pair may survive, and its index 0 is
    that place too. -/
theorem reducer_foldl_row {n : ℕ} (hn : n ≤ 2 ^ 31) (f : Fin n → EReal) (c : Fin n) (hc : IsFirstMax f c)
    (L : List (EReal × BitVec 32)) (hL : ∀ p, p ∈ L ↔ ∃ k : Fin n, p = (f k, BitVec.ofNat 32 k.val)) :
    (L.foldl (ReferenceIdeal.reducer_argmax_f32_i32 (F := Ideal)) ((⊥ : EReal), 0#32)).2 = BitVec.ofNat 32 c.val := by
  have hnat : ∀ k : Fin n, (BitVec.ofNat 32 k.val).toNat = k.val := fun k => by
    rw [BitVec.toNat_ofNat]
    exact Nat.mod_eq_of_lt (by have := k.isLt; omega)
  obtain ⟨hmem, hout⟩ := reducer_foldl L ((⊥ : EReal), 0#32) (by decide) fun p hp => by
    obtain ⟨k, rfl⟩ := (hL p).mp hp
    show (BitVec.ofNat 32 k.val).toNat < _
    rw [hnat]; have := k.isLt; omega
  have hrow : ∀ k : Fin n, Outranks (L.foldl (ReferenceIdeal.reducer_argmax_f32_i32 (F := Ideal)) ((⊥ : EReal), 0#32))
      (f k, BitVec.ofNat 32 k.val) := fun k => hout _ (List.mem_cons_of_mem _ ((hL _).mpr ⟨k, rfl⟩))
  rcases List.mem_cons.mp hmem with e | h
  · rw [e] at hrow ⊢
    have hbot : ∀ k, f k = ⊥ := fun k => le_bot_iff.mp (hrow k).1
    have h0 : c.val ≤ 0 := hc.2 ⟨0, by have := c.isLt; omega⟩ ((hbot _).trans (hbot c).symm)
    rw [Nat.le_zero.mp h0]
  · obtain ⟨k, e⟩ := (hL _).mp h
    rw [e] at hrow ⊢
    have hk : IsFirstMax f k := by
      refine ⟨fun d => (hrow d).1, fun d hd => ?_⟩
      have := (hrow d).2 hd
      rw [hnat, hnat] at this
      exact this
    rw [hc.unique hk]

end Cert.Policy

end
-- ==== Proof.RowReduce.lean ====
/- The row reductions of the two programs over a matrix of extended reals, read at one row: the kernel's arg-max, the
   reference's arg-max and the two maxima. Each is stated for any number of rows and of columns, so that it serves the
   kernel's block of rows and the reference's whole array alike. -/
module

public import proofs.«01_k».proof.Proof.FirstMax
public import Idealize.ShloMosaic.Lib.Pointwise

@[expose] public section

namespace Cert.Policy

open Idealize.ShloMosaic

variable {n0 n1 : ℕ}

/-- A finite set of numbers that holds `c` and nothing below it has minimum `c`. -/
theorem min_getD_eq (S : Finset ℕ) (c : ℕ) (hc : c ∈ S) (hle : ∀ v ∈ S, c ≤ v) : S.min.getD 0 = c := by
  have e : S.min = (c : WithTop ℕ) :=
    le_antisymm (Finset.min_le hc) (Finset.le_min fun v hv => WithTop.coe_le_coe.mpr (hle v hv))
  rw [e]
  rfl

/-- The kernel's arg-max along the columns, read at row `r`, is the first place of that row's largest entry. -/
theorem reduceIndex_row (h : (⟨2, ![n0, n1]⟩ : Shape).Reduces [1] ⟨1, ![n0]⟩) (x : FVec Ideal ⟨2, ![n0, n1]⟩ .f32) (r : Fin n0)
    (c : Fin n1) (hc : IsFirstMax (fun k => x (ix2 r k)) c) :
    reduceIndex .argMax 1 ⟨1, ![n0]⟩ x h (ix1 r) = BitVec.ofNat 32 c.val := by
  have hfib : ∀ i : (⟨2, ![n0, n1]⟩ : Shape).Idx, h.drop i = ix1 r ↔ ∃ k : Fin n1, ix2 r k = i := h.fiber_r2_a1 (ix1 r)
  show Ideal.reduceIndex .argMax 1 h x (ix1 r) = _
  unfold Ideal.reduceIndex
  dsimp only
  refine congrArg (BitVec.ofNat 32) (min_getD_eq _ _ ?_ ?_)
  · refine Finset.mem_image.mpr ⟨ix2 r c, ?_, rfl⟩
    simp only [Finset.mem_filter, Finset.mem_univ, true_and, if_true, not_lt]
    refine ⟨(hfib _).mpr ⟨c, rfl⟩, fun i hi => ?_⟩
    obtain ⟨k, rfl⟩ := (hfib i).mp hi
    exact hc.1 k
  · intro v hv
    obtain ⟨i, hi, rfl⟩ := Finset.mem_image.mp hv
    simp only [Finset.mem_filter, Finset.mem_univ, true_and, if_true, not_lt] at hi
    obtain ⟨k, rfl⟩ := (hfib i).mp hi.1
    exact hc.2 k (le_antisymm (hc.1 k) (hi.2 _ ((hfib _).mpr ⟨c, rfl⟩)))

/-- The reference's arg-max along the columns, from −∞ and index 0 over the column numbers, read at row `r`, is the first
    place of that row's largest entry. -/
theorem argReduce_row (h : (⟨2, ![n0, n1]⟩ : Shape).ReducesTo [1] ⟨1, ![n0]⟩) (hu : 0 < (⟨0, ![]⟩ : Shape).numel) (hn : n1 ≤ 2 ^ 31)
    (x : FVec Ideal ⟨2, ![n0, n1]⟩ .f32) (r : Fin n0) (c : Fin n1) (hc : IsFirstMax (fun k => x (ix2 r k)) c) :
    (Host.argReduce (ReferenceIdeal.reducer_argmax_f32_i32 (F := Ideal)) x (iotaInDim ⟨2, ![n0, n1]⟩ 32 1)
      (constant ⟨0, ![]⟩ .f32 0xFF800000#32) (constantI ⟨0, ![]⟩ 32 0#32) h hu (ix1 r)).2 = BitVec.ofNat 32 c.val := by
  have hfib : ∀ i : (⟨2, ![n0, n1]⟩ : Shape).Idx, h.drop i = ix1 r ↔ ∃ k : Fin n1, ix2 r k = i := h.fiber_r2_a1 (ix1 r)
  have hbot : (constant (F := Ideal) ⟨0, ![]⟩ .f32 0xFF800000#32) (Shape.Idx.first hu) = (⊥ : EReal) := by
    show Ideal.ofBits .f32 0xFF800000#32 = _
    simp [Ideal.ofBits, Ideal.ieee]
  rw [Ideal.argReduce_eq_reduce2, Host.reduce2_eq_foldl_fiber, hbot]
  refine reducer_foldl_row hn (fun k => x (ix2 r k)) c hc _ fun p => ?_
  unfold Host.argReduceFiber
  simp only [List.mem_map, List.mem_filter, List.mem_finRange, true_and, decide_eq_true_eq, hfib]
  constructor
  · rintro ⟨a, ⟨k, hk⟩, rfl⟩
    exact ⟨k, by rw [← hk]; rfl⟩
  · rintro ⟨k, rfl⟩
    exact ⟨Shape.rowMajor _ (ix2 r k), ⟨k, by simp⟩, by simp [iotaInDim]⟩

/-- The kernel's maximum along the columns, read at row `r`, is the maximum over that row from −∞'s word. -/
theorem multiReduction_row (h : (⟨2, ![n0, n1]⟩ : Shape).Reduces [1] ⟨1, ![n0]⟩) (x : FVec Ideal ⟨2, ![n0, n1]⟩ .f32) (r : Fin n0) :
    multiReduction .maximumf [1] ⟨1, ![n0]⟩ x 0xFF800000#32 h (.inl rfl) rfl (ix1 r)
      = (Finset.univ : Finset (Fin n1)).fold max (FloatOps.ofBits (F := Ideal) .f32 0xFF800000#32) fun k => x (ix2 r k) := by
  refine (multiReduction_maximumf_eq_fold x 0xFF800000#32 h (.inl rfl) rfl (ix1 r)).trans ?_
  exact h.fold_fiber_r2_a1 (ix1 r) _ _ _

/-- The reference's maximum along the columns, read at row `r`, is the maximum over that row from −∞'s word. -/
theorem hostReduce_row (h : (⟨2, ![n0, n1]⟩ : Shape).ReducesTo [1] ⟨1, ![n0]⟩) (hu : 0 < (⟨0, ![]⟩ : Shape).numel)
    (x : FVec Ideal ⟨2, ![n0, n1]⟩ .f32) (r : Fin n0) :
    Host.reduce FloatOps.maximumf x (constant ⟨0, ![]⟩ .f32 0xFF800000#32) h hu (ix1 r)
      = (Finset.univ : Finset (Fin n1)).fold max (FloatOps.ofBits (F := Ideal) .f32 0xFF800000#32) fun k => x (ix2 r k) := by
  rw [Host.reduce_eq_fold]
  exact h.fold_fiber_r2_a1 (ix1 r) _ _ _

end Cert.Policy

end
-- ==== Proof.Policy.lean ====
/- What the three results are, entry by entry, as plain mathematics over the extended reals: the sample's entry as two
   sums of sums and a bias, a row's maximum, and the first place of it. The kernel's arrays and the reference's are each
   compared with these, never with one another. -/
module

public import proofs.«01_k».proof.Proof.RowReduce

@[expose] public section

noncomputable section

namespace Cert.Policy

open Idealize.ShloMosaic

/-- A state row projected by `we`, at hidden unit `k`. -/
def project (row : Fin 1024 → EReal) (we : FVec Ideal ⟨2, ![1024, 512]⟩ .f32) (k : Fin 512) : EReal :=
  ∑ l : Fin 1024, row l * we (ix2 l k)

/-- The sample's entry at action `a` for one state row: the project row projected by `ws` and by `wq`, and the bias. -/
def entry (row : Fin 1024 → EReal) (we : FVec Ideal ⟨2, ![1024, 512]⟩ .f32) (ws wq : FVec Ideal ⟨2, ![512, 1000]⟩ .f32)
    (bq : FVec Ideal ⟨1, ![1000]⟩ .f32) (a : Fin 1000) : EReal :=
  (∑ k : Fin 512, project row we k * ws (ix2 k a)) + (∑ k : Fin 512, project row we k * wq (ix2 k a)) + bq (ix1 a)

/-- The largest of a row's thousand entries, from −∞. -/
def largest (f : Fin 1000 → EReal) : EReal :=
  (Finset.univ : Finset (Fin 1000)).fold max (FloatOps.ofBits (F := Ideal) .f32 0xFF800000#32) f

/-- The first place at which a row of a thousand entries is largest. -/
def firstPlace (f : Fin 1000 → EReal) : Fin 1000 := (exists_isFirstMax (by decide) f).choose

/-- It is that place. -/
theorem firstPlace_spec (f : Fin 1000 → EReal) : IsFirstMax f (firstPlace f) := (exists_isFirstMax (by decide) f).choose_spec

variable (st : FVec Ideal ⟨2, ![1024, 1024]⟩ .f32) (we : FVec Ideal ⟨2, ![1024, 512]⟩ .f32)
  (ws wq : FVec Ideal ⟨2, ![512, 1000]⟩ .f32) (bq : FVec Ideal ⟨1, ![1000]⟩ .f32)

/-- The whole sample: at (`r`, `a`) the entry of row `r` at action `a`. -/
def sampleAt (r : Fin 1024) (a : Fin 1000) : EReal := entry (fun l => st (ix2 r l)) we ws wq bq a

/-- The sample as an array. -/
def sampleArr : FVec Ideal ⟨2, ![1024, 1000]⟩ .f32 := fun i => sampleAt st we ws wq bq (i 0) (i 1)

/-- The row maxima as an array. -/
def maxArr : FVec Ideal ⟨1, ![1024]⟩ .f32 := fun i => largest (sampleAt st we ws wq bq (i 0))

/-- The row arg-maxima as an array of 32-bit words. -/
def argArr : IVec ⟨1, ![1024]⟩ 32 := fun i => BitVec.ofNat 32 (firstPlace (sampleAt st we ws wq bq (i 0))).val

end Cert.Policy

end
-- ==== Proof.Block.lean ====
/- What one grid point computes: the three values the kernel's body stores, read at an index, in terms of the block of
   512 state rows it was given. -/
module

public import proofs.«01_k».proof.Proof.Policy
public import proofs.«01_k».proof.Proof.Gen.KernelIdeal.Frame
public import Idealize.ShloMosaic.Lib.Pipeline.Value

@[expose] public section

noncomputable section

namespace Cert.KernelIdeal.Hand

open Idealize.ShloMosaic Cert.KernelIdeal Cert.KernelIdeal.Gen Cert.Policy

variable (x : FVec Ideal S512x1024 .f32) (we : FVec Ideal S1024x512 .f32) (ws wq : FVec Ideal S512x1000 .f32)
  (bq : FVec Ideal S1000 .f32)

/-- The stored sample at row `r` of the block and action `a` is the entry of that row. -/
theorem pay1_apply (r : Fin 512) (a : Fin 1000) :
    k0_pay1 (F := Ideal) x we ws wq bq (ix2 r a) = entry (fun l => x (ix2 r l)) we ws wq bq a := by
  unfold entry project
  pointwise [k0_pay1]

/-- The stored maximum at row `r` of the block is the largest entry of that row. -/
theorem pay2_apply (r : Fin 512) :
    k0_pay2 (F := Ideal) x we ws wq bq (ix1 r) = largest (entry (fun l => x (ix2 r l)) we ws wq bq) := by
  refine (multiReduction_row reduces_S512x1000_S512 (k0_pay1 (F := Ideal) x we ws wq bq) r).trans ?_
  exact congrArg largest (funext (pay1_apply x we ws wq bq r))

/-- The stored index at row `r` of the block is the first place of that row's largest entry. -/
theorem pay3_apply (r : Fin 512) :
    k0_pay3 (F := Ideal) x we ws wq bq (ix1 r)
      = BitVec.ofNat 32 (firstPlace (entry (fun l => x (ix2 r l)) we ws wq bq)).val := by
  refine reduceIndex_row reduces_S512x1000_S512 (k0_pay1 (F := Ideal) x we ws wq bq) r _ ?_
  rw [funext (pay1_apply x we ws wq bq r)]
  exact firstPlace_spec _

/-- A rectangle of two axes that starts at the origin. -/
theorem origin2 : (![0, 0] : Fin 2 → Nat) = fun _ => 0 := funext fun a => by fin_cases a <;> rfl

/-- A rectangle of one axis that starts at the origin. -/
theorem origin1 : (![0] : Fin 1 → Nat) = fun _ => 0 := funext fun a => by fin_cases a; rfl

variable {F : FTy → Type} [FloatOps F]

/-- The body's loads read the whole buffers and its store into the first result's buffer covers it: the buffer ends at
    the stored sample. -/
theorem out5_eq (x : Vec F S512x1024 .f32) (we : Vec F S1024x512 .f32) (ws wq : Vec F S512x1000 .f32) (bq : Vec F S1000 .f32) :
    out0_5 x we ws wq bq = k0_pay1 x we ws wq bq := by
  unfold out0_5
  rw [View.canon_unit_zero origin2, View.ld_unit_zero origin2, View.ld_unit_zero origin2, View.ld_unit_zero origin2,
    View.ld_unit_zero origin2, View.ld_unit_zero origin1]

/-- The second result's buffer ends at the stored maxima. -/
theorem out6_eq (x : Vec F S512x1024 .f32) (we : Vec F S1024x512 .f32) (ws wq : Vec F S512x1000 .f32) (bq : Vec F S1000 .f32) :
    out0_6 x we ws wq bq = k0_pay2 x we ws wq bq := by
  unfold out0_6
  rw [View.canon_unit_zero origin1, View.ld_unit_zero origin2, View.ld_unit_zero origin2, View.ld_unit_zero origin2,
    View.ld_unit_zero origin2, View.ld_unit_zero origin1]

/-- The third result's buffer ends at the stored indices. -/
theorem out7_eq (x : Vec F S512x1024 .f32) (we : Vec F S1024x512 .f32) (ws wq : Vec F S512x1000 .f32) (bq : Vec F S1000 .f32) :
    out0_7 x we ws wq bq = k0_pay3 x we ws wq bq := by
  unfold out0_7
  rw [View.canon_unit_zero origin1, View.ld_unit_zero origin2, View.ld_unit_zero origin2, View.ld_unit_zero origin2,
    View.ld_unit_zero origin2, View.ld_unit_zero origin1]

end Cert.KernelIdeal.Hand

end
-- ==== Proof.Arrays.lean ====
/- What the kernel's three result arrays hold after the run. Each of the two grid points writes its own 512 rows, and
   the two blocks cover each array, so the arrays are those of Policy.lean at the launch's arguments. -/
module

public import proofs.«01_k».proof.Proof.Block
public import proofs.«01_k».proof.Proof.Gen.KernelIdeal.Value

@[expose] public section

noncomputable section

namespace Cert.KernelIdeal.Hand

open Idealize.ShloMosaic Idealize.ShloMosaic.TcCoe Idealize.SL.Sem Cert.KernelIdeal Cert.KernelIdeal.Gen Cert.Policy
open Idealize.ShloMosaic.Pipeline (Dat)

variable (m : (ℓ : Loc nD τ sig) → Buf (Elt Ideal) ℓ) (ρ : Dev nD → PrngReg) (c : Dev nD)

/-- The five arguments of device `c` as launched: the state, -/
abbrev stateOf : FVec Ideal S1024x1024 .f32 := m ((c.tc : Thread nD τ).loc main_arg0)
/-- the embedding matrix, -/
abbrev weOf : FVec Ideal S1024x512 .f32 := m ((c.tc : Thread nD τ).loc main_arg1)
/-- the first projection, -/
abbrev wsOf : FVec Ideal S512x1000 .f32 := m ((c.tc : Thread nD τ).loc main_arg2)
/-- the second projection, -/
abbrev wqOf : FVec Ideal S512x1000 .f32 := m ((c.tc : Thread nD τ).loc main_arg3)
/-- and the bias. -/
abbrev bqOf : FVec Ideal S1000 .f32 := m ((c.tc : Thread nD τ).loc main_arg4)

/-- Where the windows' blocks lie at point `t`: the state's and the three results' at block row `t`, the others at the
    origin. -/
theorem index_eq (t : Fin cfg0.N) :
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0)
      ∧ win0_4.index t 0 = 0 ∧ (win0_5.index t 0 = t.val ∧ win0_5.index t 1 = 0)
      ∧ win0_6.index t 0 = t.val ∧ win0_7.index t 0 = t.val := by
  rcases fin_N0 t with rfl | rfl <;> decide +kernel

/-- The row of the whole array that is row `r` of point `t`'s block. -/
def rowOf (t : Fin cfg0.N) (r : Fin 512) : Fin 1024 :=
  ⟨512 * t.val + r.val, by have h : t.val < 2 := N_0 ▸ t.isLt; have := r.isLt; omega⟩

/-- The state's block at point `t` is rows 512·t to 512·t + 511 of the state. -/
theorem iblk0_apply (t : Fin cfg0.N) (r : Fin 512) (l : Fin 1024) :
    iblk m c 0 t (ix2 r l) = stateOf m c (ix2 (rowOf t r) l) := by
  have hi := (index_eq t).1
  unfold iblk
  rw [View.read_apply]
  show m ((c.tc : Thread nD τ).loc main_arg0) _ = m ((c.tc : Thread nD τ).loc main_arg0) _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * l.val = l.val; rw [hi.2]; omega

/-- The embedding matrix's block is the whole matrix at every point. -/
theorem iblk1_eq (t : Fin cfg0.N) : iblk m c 1 t = weOf m c := by
  have hi := (index_eq t).2.1
  funext j
  unfold iblk
  rw [View.read_apply]
  show m ((c.tc : Thread nD τ).loc main_arg1) _ = m ((c.tc : Thread nD τ).loc main_arg1) _
  congr 1
  funext a
  apply Fin.ext
  match a with
  | ⟨0, _⟩ => show win0_1.index t 0 * 1024 + 1 * (j 0).val = (j 0).val; rw [hi.1]; omega
  | ⟨1, _⟩ => show win0_1.index t 1 * 512 + 1 * (j 1).val = (j 1).val; rw [hi.2]; omega

/-- The first projection's block is the whole matrix at every point. -/
theorem iblk2_eq (t : Fin cfg0.N) : iblk m c 2 t = wsOf m c := by
  have hi := (index_eq t).2.2.1
  funext j
  unfold iblk
  rw [View.read_apply]
  show m ((c.tc : Thread nD τ).loc main_arg2) _ = m ((c.tc : Thread nD τ).loc main_arg2) _
  congr 1
  funext a
  apply Fin.ext
  match a with
  | ⟨0, _⟩ => show win0_2.index t 0 * 512 + 1 * (j 0).val = (j 0).val; rw [hi.1]; omega
  | ⟨1, _⟩ => show win0_2.index t 1 * 1000 + 1 * (j 1).val = (j 1).val; rw [hi.2]; omega

/-- The second projection's block is the whole matrix at every point. -/
theorem iblk3_eq (t : Fin cfg0.N) : iblk m c 3 t = wqOf m c := by
  have hi := (index_eq t).2.2.2.1
  funext j
  unfold iblk
  rw [View.read_apply]
  show m ((c.tc : Thread nD τ).loc main_arg3) _ = m ((c.tc : Thread nD τ).loc main_arg3) _
  congr 1
  funext a
  apply Fin.ext
  match a with
  | ⟨0, _⟩ => show win0_3.index t 0 * 512 + 1 * (j 0).val = (j 0).val; rw [hi.1]; omega
  | ⟨1, _⟩ => show win0_3.index t 1 * 1000 + 1 * (j 1).val = (j 1).val; rw [hi.2]; omega

/-- The bias's block is the whole bias at every point. -/
theorem iblk4_eq (t : Fin cfg0.N) : iblk m c 4 t = bqOf m c := by
  have hi := (index_eq t).2.2.2.2.1
  funext j
  unfold iblk
  rw [View.read_apply]
  show m ((c.tc : Thread nD τ).loc main_arg4) _ = m ((c.tc : Thread nD τ).loc main_arg4) _
  congr 1
  funext a
  apply Fin.ext
  match a with
  | ⟨0, _⟩ => show win0_4.index t 0 * 1000 + 1 * (j 0).val = (j 0).val; rw [hi]; omega

/-- The rows the block at point `t` gives the body, entry by entry, are the sample's rows there. -/
theorem entry_block (t : Fin cfg0.N) (r : Fin 512) :
    entry (fun l => iblk m c 0 t (ix2 r l)) (weOf m c) (wsOf m c) (wqOf m c) (bqOf m c)
      = sampleAt (stateOf m c) (weOf m c) (wsOf m c) (wqOf m c) (bqOf m c) (rowOf t r) := by
  have h : (fun l => iblk m c 0 t (ix2 r l)) = fun l => stateOf m c (ix2 (rowOf t r) l) := funext (iblk0_apply m c t r)
  funext a
  unfold sampleAt
  rw [← h]

/-- The sample array of device `c`'s arguments. -/
abbrev sampleOf : FVec Ideal S1024x1000 .f32 := sampleArr (stateOf m c) (weOf m c) (wsOf m c) (wqOf m c) (bqOf m c)
/-- The array of row maxima of device `c`'s arguments. -/
abbrev maxOf : FVec Ideal S1024 .f32 := maxArr (stateOf m c) (weOf m c) (wsOf m c) (wqOf m c) (bqOf m c)
/-- The array of first places of device `c`'s arguments. -/
abbrev argOf : IVec S1024 32 := argArr (stateOf m c) (weOf m c) (wsOf m c) (wqOf m c) (bqOf m c)

/-- Point `t` writes back its block of the sample array. -/
theorem flushed5_eq (t : Fin cfg0.N) :
    (dats m 0 c).flushed 5 t = ((cfg0.win 5).blk t).view.read (Elt Ideal) (sampleOf m c) := by
  rw [Value.flushed5, out5_eq, iblk1_eq, iblk2_eq, iblk3_eq, iblk4_eq]
  have hi := (index_eq t).2.2.2.2.2.1
  funext j
  rw [View.read_apply]
  have he : ((cfg0.win 5).blk t).view.emb j = ix2 (rowOf t (j 0)) (j 1) := by
    funext a
    apply Fin.ext
    match a with
    | ⟨0, _⟩ => show win0_5.index t 0 * 512 + 1 * (j 0).val = 512 * t.val + (j 0).val; rw [hi.1]; omega
    | ⟨1, _⟩ => show win0_5.index t 1 * 1000 + 1 * (j 1).val = (j 1).val; rw [hi.2]; omega
  rw [he]
  show k0_pay1 (F := Ideal) (iblk m c 0 t) (weOf m c) (wsOf m c) (wqOf m c) (bqOf m c) j = sampleOf m c (ix2 (rowOf t (j 0)) (j 1))
  rw [eq_ix2 j]
  exact (pay1_apply _ _ _ _ _ (j 0) (j 1)).trans (congrFun (entry_block m c t (j 0)) (j 1))

/-- Point `t` writes back its block of the array of row maxima. -/
theorem flushed6_eq (t : Fin cfg0.N) :
    (dats m 0 c).flushed 6 t = ((cfg0.win 6).blk t).view.read (Elt Ideal) (maxOf m c) := by
  rw [Value.flushed6, out6_eq, iblk1_eq, iblk2_eq, iblk3_eq, iblk4_eq]
  have hi := (index_eq t).2.2.2.2.2.2.1
  funext j
  rw [View.read_apply]
  have he : ((cfg0.win 6).blk t).view.emb j = ix1 (rowOf t (j 0)) := by
    funext a
    apply Fin.ext
    match a with
    | ⟨0, _⟩ => show win0_6.index t 0 * 512 + 1 * (j 0).val = 512 * t.val + (j 0).val; rw [hi]; omega
  rw [he]
  show k0_pay2 (F := Ideal) (iblk m c 0 t) (weOf m c) (wsOf m c) (wqOf m c) (bqOf m c) j = maxOf m c (ix1 (rowOf t (j 0)))
  rw [eq_ix1 j]
  exact (pay2_apply _ _ _ _ _ (j 0)).trans (congrArg largest (entry_block m c t (j 0)))

/-- Point `t` writes back its block of the array of first places. -/
theorem flushed7_eq (t : Fin cfg0.N) :
    (dats m 0 c).flushed 7 t = ((cfg0.win 7).blk t).view.read (Elt Ideal) (argOf m c) := by
  rw [Value.flushed7, out7_eq, iblk1_eq, iblk2_eq, iblk3_eq, iblk4_eq]
  have hi := (index_eq t).2.2.2.2.2.2.2
  funext j
  rw [View.read_apply]
  have he : ((cfg0.win 7).blk t).view.emb j = ix1 (rowOf t (j 0)) := by
    funext a
    apply Fin.ext
    match a with
    | ⟨0, _⟩ => show win0_7.index t 0 * 512 + 1 * (j 0).val = 512 * t.val + (j 0).val; rw [hi]; omega
  rw [he]
  show k0_pay3 (F := Ideal) (iblk m c 0 t) (weOf m c) (wsOf m c) (wqOf m c) (bqOf m c) j = argOf m c (ix1 (rowOf t (j 0)))
  rw [eq_ix1 j]
  exact (pay3_apply _ _ _ _ _ (j 0)).trans (congrArg (fun f => BitVec.ofNat 32 (firstPlace f).val) (entry_block m c t (j 0)))

/-- The point whose block holds row `r`. -/
def pointOf (r : ℕ) (hr : r < 1024) : Fin cfg0.N := ⟨r / 512, by rw [show cfg0.N = 2 from N_0]; omega⟩

/-- Every index of the sample array lies in the block of its row's point. -/
theorem cover5 (i : S1024x1000.Idx) :
    ∃ t : Fin cfg0.N, (cfg0.win 5).flush t = true ∧ i ∈ ((cfg0.win 5).blk t).view.set := by
  have h0 : (i 0 : ℕ) < 1024 := (i 0).isLt
  have h1 : (i 1 : ℕ) < 1000 := (i 1).isLt
  refine ⟨pointOf (i 0) h0, flush0_5 _, ?_⟩
  have hi := (index_eq (pointOf (i 0) h0)).2.2.2.2.2.1
  have hp : (pointOf (i 0) h0).val = (i 0 : ℕ) / 512 := rfl
  show i ∈ ((View.whole main_v0_0).slice (win0_5.rect (pointOf (i 0) h0))).set
  rw [View.set_slice_whole, Rect.mem_set_unit]
  intro a
  match a with
  | ⟨0, _⟩ =>
    show win0_5.index _ 0 * 512 ≤ (i 0 : ℕ) ∧ (i 0 : ℕ) < win0_5.index _ 0 * 512 + 512
    rw [hi.1, hp]; omega
  | ⟨1, _⟩ =>
    show win0_5.index _ 1 * 1000 ≤ (i 1 : ℕ) ∧ (i 1 : ℕ) < win0_5.index _ 1 * 1000 + 1000
    rw [hi.2]; omega

/-- Every index of the array of maxima lies in the block of its row's point. -/
theorem cover6 (i : S1024.Idx) :
    ∃ t : Fin cfg0.N, (cfg0.win 6).flush t = true ∧ i ∈ ((cfg0.win 6).blk t).view.set := by
  have h0 : (i 0 : ℕ) < 1024 := (i 0).isLt
  refine ⟨pointOf (i 0) h0, flush0_6 _, ?_⟩
  have hi := (index_eq (pointOf (i 0) h0)).2.2.2.2.2.2.1
  have hp : (pointOf (i 0) h0).val = (i 0 : ℕ) / 512 := rfl
  show i ∈ ((View.whole main_v0_1).slice (win0_6.rect (pointOf (i 0) h0))).set
  rw [View.set_slice_whole, Rect.mem_set_unit]
  intro a
  match a with
  | ⟨0, _⟩ =>
    show win0_6.index _ 0 * 512 ≤ (i 0 : ℕ) ∧ (i 0 : ℕ) < win0_6.index _ 0 * 512 + 512
    rw [hi, hp]; omega

/-- Every index of the array of first places lies in the block of its row's point. -/
theorem cover7 (i : S1024.Idx) :
    ∃ t : Fin cfg0.N, (cfg0.win 7).flush t = true ∧ i ∈ ((cfg0.win 7).blk t).view.set := by
  have h0 : (i 0 : ℕ) < 1024 := (i 0).isLt
  refine ⟨pointOf (i 0) h0, flush0_7 _, ?_⟩
  have hi := (index_eq (pointOf (i 0) h0)).2.2.2.2.2.2.2
  have hp : (pointOf (i 0) h0).val = (i 0 : ℕ) / 512 := rfl
  show i ∈ ((View.whole main_v0_2).slice (win0_7.rect (pointOf (i 0) h0))).set
  rw [View.set_slice_whole, Rect.mem_set_unit]
  intro a
  match a with
  | ⟨0, _⟩ =>
    show win0_7.index _ 0 * 512 ≤ (i 0 : ℕ) ∧ (i 0 : ℕ) < win0_7.index _ 0 * 512 + 512
    rw [hi, hp]; omega

/-- After the run the first result array is the sample, -/
theorem final5 : (dats m 0 c).arrAt 5 cfg0.N = sampleOf m c :=
  (dats m 0 c).arrAt_eq_of_cover 5 (sampleOf m c) (fun t _ => flushed5_eq m c t) cover5

/-- the second is its row maxima, -/
theorem final6 : (dats m 0 c).arrAt 6 cfg0.N = maxOf m c :=
  (dats m 0 c).arrAt_eq_of_cover 6 (maxOf m c) (fun t _ => flushed6_eq m c t) cover6

/-- and the third is the first places of them. -/
theorem final7 : (dats m 0 c).arrAt 7 cfg0.N = argOf m c :=
  (dats m 0 c).arrAt_eq_of_cover 7 (argOf m c) (fun t _ => flushed7_eq m c t) cover7

/-- Every run of the kernel ends, with the three results at those arrays and the five arguments unchanged. -/
theorem run : θ_run defs (onTc (τ := τ) (main (F := Ideal))) ⟨m, fun _ => 0, ρ⟩ fun r => ∀ c : Dev nD,
      r.2.mem ((c : Thread nD τ).loc main_v0_0) = sampleOf m c
      ∧ r.2.mem ((c : Thread nD τ).loc main_v0_1) = maxOf m c
      ∧ r.2.mem ((c : Thread nD τ).loc main_v0_2) = argOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun _ h c => ⟨(h c).1.trans (final5 m c), (h c).2.1.trans (final6 m c), (h c).2.2.1.trans (final7 m c), (h c).2.2.2⟩)
    (Value.run_blocks (F := Ideal) m ρ)

end Cert.KernelIdeal.Hand

end
-- ==== Proof.RefRun.lean ====
/- The reference's run: @main is a straight line of array operations, so every run ends with each buffer at the
   operations' composed value. The three results are named here as functions of the five arguments. -/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- The sample: the state's projection by `We`, projected by `Ws` and by `Wq`, the two added, and the bias `bq` added
    to every row. -/
def sample (st : FVec F S1024x1024 .f32) (we : FVec F S1024x512 .f32) (ws wq : FVec F S512x1000 .f32) (bq : FVec F S1000 .f32) :
    FVec F S1024x1000 .f32 :=
  addf
    (addf
      (Host.dotGeneral dot_S1024x512_S512x1000_S1024x1000_1_0_0_1_n_n none
        (Host.dotGeneral dot_S1024x1024_S1024x512_S1024x512_1_0_0_1_n_n none st we) ws)
      (Host.dotGeneral dot_S1024x512_S512x1000_S1024x1000_1_0_0_1_n_n none
        (Host.dotGeneral dot_S1024x1024_S1024x512_S1024x512_1_0_0_1_n_n none st we) wq))
    (broadcastInDim S1024x1000 ![0, 1] bcast_S1x1000_S1024x1000_0_1 (broadcastInDim S1x1000 ![1] bcast_S1000_S1x1000_1 bq))

/-- Each row's maximum, from −∞. -/
def rowMax (x : FVec F S1024x1000 .f32) : FVec F S1024 .f32 :=
  Host.reduce FloatOps.maximumf x (constant S_ .f32 0xFF800000#32) reducesTo_S1024x1000_S1024_d1 h_S_

/-- Each row's arg-max, by the reference's reducer over the pairs of an entry and its column number. -/
def rowArg (x : FVec F S1024x1000 .f32) : IVec S1024 32 := fun j =>
  (Host.argReduce reducer_argmax_f32_i32 x (iotaInDim S1024x1000 32 1) (constant S_ .f32 0xFF800000#32) (constantI S_ 32 0#32)
    reducesTo_S1024x1000_S1024_d1 h_S_ j).2

/-- @main's fourteen operations in order, the last five being the arg-max's function. -/
abbrev ops : List (HloOp τ sig (Elt F)) :=
  [ binary main_arg0 main_arg1 main_v0 (fun l r => Host.dotGeneral dot_S1024x1024_S1024x512_S1024x512_1_0_0_1_n_n none l r),
    binary main_v0 main_arg2 main_v1 (fun l r => Host.dotGeneral dot_S1024x512_S512x1000_S1024x1000_1_0_0_1_n_n none l r),
    binary main_v0 main_arg3 main_v2 (fun l r => Host.dotGeneral dot_S1024x512_S512x1000_S1024x1000_1_0_0_1_n_n none l r),
    binary main_v1 main_v2 main_v3 addf,
    unary main_arg4 main_v4 (broadcastInDim S1x1000 ![1] bcast_S1000_S1x1000_1),
    unary main_v4 main_v5 (broadcastInDim S1024x1000 ![0, 1] bcast_S1x1000_S1024x1000_0_1),
    binary main_v3 main_v5 main_v6 addf,
    nullary main_cst (constant S_ .f32 0xFF800000#32),
    binary main_v6 main_cst main_v7 (fun x v => Host.reduce FloatOps.maximumf x v reducesTo_S1024x1000_S1024_d1 h_S_),
    TRef.nullary main_call0.v0 (iotaInDim S1024x1000 32 1),
    TRef.nullary main_call0.cst (constant S_ .f32 0xFF800000#32),
    TRef.nullary main_call0.c (constantI S_ 32 0#32),
    TRef.quaternary (.of main_v6) main_call0.v0 main_call0.cst main_call0.c main_call0.v1_0
      (fun x y u v j => (Host.argReduce reducer_argmax_f32_i32 x y u v reducesTo_S1024x1000_S1024_d1 h_S_ j).1),
    TRef.quaternary (.of main_v6) main_call0.v0 main_call0.cst main_call0.c main_call0.v1_1
      (fun x y u v j => (Host.argReduce reducer_argmax_f32_i32 x y u v reducesTo_S1024x1000_S1024_d1 h_S_ j).2) ]

/-- @main is that straight line. -/
theorem main_eq (c : Dev nD) : main (F := F) c = seq ops := by
  simp only [main, fn_argmax.body, seq, bind_assoc, pure_bind]
  rfl

/-- What the line leaves in the first result buffer is the sample of the five arguments. -/
theorem after_sample (V : Valuation τ sig (Elt F)) :
    after ops V (main_v6 : DevRef τ sig)
      = sample (V (main_arg0 : DevRef τ sig)) (V (main_arg1 : DevRef τ sig)) (V (main_arg2 : DevRef τ sig))
          (V (main_arg3 : DevRef τ sig)) (V (main_arg4 : DevRef τ sig)) := by
  after_results_simp
  rfl

/-- What it leaves in the second is each row's maximum of that sample. -/
theorem after_max (V : Valuation τ sig (Elt F)) :
    after ops V (main_v7 : DevRef τ sig)
      = rowMax (sample (V (main_arg0 : DevRef τ sig)) (V (main_arg1 : DevRef τ sig)) (V (main_arg2 : DevRef τ sig))
          (V (main_arg3 : DevRef τ sig)) (V (main_arg4 : DevRef τ sig))) := by
  after_results_simp
  rfl

/-- What it leaves in the third is each row's arg-max of that sample. -/
theorem after_arg (V : Valuation τ sig (Elt F)) :
    after ops V (main_v8 : DevRef τ sig)
      = rowArg (sample (V (main_arg0 : DevRef τ sig)) (V (main_arg1 : DevRef τ sig)) (V (main_arg2 : DevRef τ sig))
          (V (main_arg3 : DevRef τ sig)) (V (main_arg4 : DevRef τ sig))) := by
  after_results_simp
  rfl

/-- The line leaves each argument as it was. -/
theorem after_args (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig) := by
  simp only [after_cons, after_nil]
  exact ⟨rfl, rfl, rfl, rfl, rfl⟩

/-- The program scopes no buffer. -/
theorem scopedRefs_eq : (Finset.univ.filter fun b : Ref sig .tc => b.isScoped) = ∅ := by decide

/-- The program scopes no semaphore. -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., binary_bufs_sub .., binary_bufs_sub .., binary_bufs_sub .., unary_bufs_sub .., unary_bufs_sub ..,
    binary_bufs_sub .., nullary_bufs_sub .., binary_bufs_sub .., nullary_bufs_sub .., nullary_bufs_sub .., nullary_bufs_sub ..,
    quaternary_bufs_sub .., quaternary_bufs_sub ..⟩

variable (m : (ℓ : Loc nD τ sig) → Buf (Elt F) ℓ) (ρ : Dev nD → PrngReg)

/-- The sample of device `c`'s five arguments as launched. -/
abbrev sampleOf (c : Dev nD) : FVec F S1024x1000 .f32 :=
  sample (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Every run of the reference ends, with the three results at the sample, its row maxima and its row arg-maxima, and the
    five arguments unchanged. -/
theorem run : θ_run defs (onTc (τ := τ) (main (F := F))) ⟨m, fun _ => 0, ρ⟩ fun r => ∀ c : Dev nD,
      r.2.mem ((c.tc : Thread nD τ).loc main_v6) = sampleOf m c
      ∧ r.2.mem ((c.tc : Thread nD τ).loc main_v7) = rowMax (sampleOf m c)
      ∧ r.2.mem ((c.tc : Thread nD τ).loc main_v8) = rowArg (sampleOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c =>
      have ha := after_args (launchContents m c)
      ⟨(h c main_v6).trans (after_sample _), (h c main_v7).trans (after_max _), (h c main_v8).trans (after_arg _),
        (h c main_arg0).trans ha.1, (h c main_arg1).trans ha.2.1, (h c main_arg2).trans ha.2.2.1,
        (h c main_arg3).trans ha.2.2.2.1, (h c main_arg4).trans ha.2.2.2.2⟩)
    (run_seq scopedRefs_eq scopedSems_eq defs main (fun _ => ops) main_eq (fun _ => ops_sub) m ρ)

/-- The same read for the frame: the arguments are unchanged and every semaphore counter ends at zero, the program having
    none. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2.2, sem_eq_zero_of_no_sems (by decide) r.2⟩) (run m ρ)

end Cert.ReferenceIdeal.Hand

end
-- ==== Proof.RefValue.lean ====
/- The reference's three results are the arrays of Policy.lean. -/
module

public import proofs.«01_k».proof.Proof.Policy
public import proofs.«01_k».proof.Proof.RefRun

@[expose] public section

noncomputable section

namespace Cert.ReferenceIdeal.Hand

open Idealize.ShloMosaic Cert.ReferenceIdeal Cert.ReferenceIdeal.Gen Cert.Policy

variable (st : FVec Ideal S1024x1024 .f32) (we : FVec Ideal S1024x512 .f32) (ws wq : FVec Ideal S512x1000 .f32)
  (bq : FVec Ideal S1000 .f32)

/-- The reference's sample at row `r` and action `a` is the entry there. -/
theorem sample_apply (r : Fin 1024) (a : Fin 1000) :
    sample st we ws wq bq (ix2 r a) = sampleAt st we ws wq bq r a := by
  unfold sampleAt entry project
  pointwise [sample]

/-- The reference's sample is the sample array. -/
theorem sample_eq : sample st we ws wq bq = sampleArr st we ws wq bq := by
  funext i
  rw [eq_ix2 i]
  exact sample_apply st we ws wq bq (i 0) (i 1)

/-- The reference's row maxima are the array of row maxima. -/
theorem rowMax_eq : rowMax (sample st we ws wq bq) = maxArr st we ws wq bq := by
  funext i
  rw [eq_ix1 i]
  refine (hostReduce_row reducesTo_S1024x1000_S1024_d1 h_S_ (sample st we ws wq bq) (i 0)).trans ?_
  exact congrArg largest (funext (sample_apply st we ws wq bq (i 0)))

/-- The reference's row arg-maxima are the array of first places. -/
theorem rowArg_eq : rowArg (sample st we ws wq bq) = argArr st we ws wq bq := by
  funext i
  rw [eq_ix1 i]
  unfold rowArg argArr
  refine argReduce_row reducesTo_S1024x1000_S1024_d1 h_S_ (by norm_num) (sample st we ws wq bq) (i 0)
    (firstPlace (sampleAt st we ws wq bq (i 0))) ?_
  rw [funext (sample_apply st we ws wq bq (i 0))]
  exact firstPlace_spec _

end Cert.ReferenceIdeal.Hand

end
-- ==== Proof.Equation.lean ====
/- The claims, each proved from the two runs: the reference's frames, and the equation of the three results. -/
module

public import proofs.«01_k».proof.Proof.Arrays
public import proofs.«01_k».proof.Proof.RefValue
public import proofs.«01_k».proof.Proof.Gen.Kernel.Frame
public import proofs.«01_k».proof.Proof.Gen.Pre_no_tie

@[expose] public section

noncomputable section

namespace Cert.Proof

open Idealize.ShloMosaic Idealize.SL.Sem Cert.Policy

/-- Every run of the kernel from any memory ends with its arguments unchanged and its counters at zero. -/
theorem frame_kernel : Cert.quiescent_Kernel := fun m ρ _ => Cert.Kernel.Gen.frame m ρ

/-- The same from a memory without ties. -/
theorem frame_kernel_no_tie : Cert.quiescent_Kernel_pre_no_tie := fun m ρ _ => Cert.Kernel.Gen.frame m ρ

/-- The same of the kernel over the extended reals. -/
theorem frame_kernelIdeal : Cert.quiescent_KernelIdeal := fun m ρ _ => Cert.KernelIdeal.Gen.frame m ρ

/-- Every run of the reference from any memory ends with its arguments unchanged and its counters at zero. -/
theorem frame_reference : Cert.quiescent_ReferenceIdeal := fun m ρ _ => Cert.ReferenceIdeal.Hand.frame m ρ

/-- The same from a memory without ties. -/
theorem frame_reference_no_tie : Cert.quiescent_ReferenceIdeal_pre_no_tie := fun m ρ _ => Cert.ReferenceIdeal.Hand.frame m ρ

/-- Nothing of the kernel was rewritten to read it over the extended reals. -/
theorem preserves : Cert.preserves_Kernel_KernelIdeal := trivial

/-- Where their arguments agree, the kernel and the reference end with the same three results: the sample, the row
    maxima and the row arg-maxima. The proof does not use that there is no tie, since both take the first place. -/
theorem algebraic : Cert.algebraic_KernelIdeal_ReferenceIdeal := by
  intro m g m' g' _ hagree
  refine ⟨fun c => KernelIdeal.Hand.sampleOf m c, fun c => KernelIdeal.Hand.maxOf m c, fun c => KernelIdeal.Hand.argOf m c,
    KernelIdeal.Hand.run m g, ?_⟩
  refine (θ_run Cert.ReferenceIdeal.defs _ _).mono (fun r h c => ?_) (Cert.ReferenceIdeal.Hand.run (F := Ideal) m' g')
  obtain ⟨e0, e1, e2, e3, e4⟩ := hagree c
  have hs : ReferenceIdeal.Hand.sampleOf m' c
      = ReferenceIdeal.Hand.sample (KernelIdeal.Hand.stateOf m c) (KernelIdeal.Hand.weOf m c) (KernelIdeal.Hand.wsOf m c)
          (KernelIdeal.Hand.wqOf m c) (KernelIdeal.Hand.bqOf m c) := by
    unfold ReferenceIdeal.Hand.sampleOf
    rw [e0, e1, e2, e3, e4]
  obtain ⟨h6, h7, h8, hargs⟩ := h c
  rw [hs] at h6 h7 h8
  exact ⟨h6.trans (ReferenceIdeal.Hand.sample_eq ..), h7.trans (ReferenceIdeal.Hand.rowMax_eq ..),
    h8.trans (ReferenceIdeal.Hand.rowArg_eq ..), hargs⟩

end Cert.Proof

end
-- ==== Proof.lean ====
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.Pre_no_tie

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_no_tie.Gen.facts,
    frame_kernel, frame_kernel_no_tie, frame_kernelIdeal, frame_reference, frame_reference_no_tie, preserves, algebraic⟩

end Cert.Proof

end
